-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1x13952 : Shape := ⟨3, ![32, 1, 13952]⟩
abbrev S13952x24064 : Shape := ⟨2, ![13952, 24064]⟩
abbrev S24064 : Shape := ⟨1, ![24064]⟩
abbrev S32x13952 : Shape := ⟨2, ![32, 13952]⟩
abbrev S1x24064 : Shape := ⟨2, ![1, 24064]⟩
abbrev S32x24064 : Shape := ⟨2, ![32, 24064]⟩
abbrev S13952x512 : Shape := ⟨2, ![13952, 512]⟩
abbrev S1x512 : Shape := ⟨2, ![1, 512]⟩
abbrev S32x512 : Shape := ⟨2, ![32, 512]⟩
abbrev S32x1x24064 : Shape := ⟨3, ![32, 1, 24064]⟩

abbrev nBuf : Space → Nat
  | .hbm => 7
  | .vmem => 7
  | .smem => 0
  | _ => 0

abbrev bufTy : (tb : Table) → Fin (tcTables nBuf tb) → BufTy
  | .hbm, ⟨0, _⟩ => ⟨S32x1x13952, .bf16⟩
  | .hbm, ⟨1, _⟩ => ⟨S13952x24064, .i8⟩
  | .hbm, ⟨2, _⟩ => ⟨S24064, .f32⟩
  | .hbm, ⟨3, _⟩ => ⟨S32x13952, .bf16⟩
  | .hbm, ⟨4, _⟩ => ⟨S1x24064, .f32⟩
  | .hbm, ⟨5, _⟩ => ⟨S32x24064, .bf16⟩
  | .hbm, ⟨6, _⟩ => ⟨S32x1x24064, .bf16⟩
  | .local _ .vmem, ⟨0, _⟩ => ⟨S32x13952, .bf16⟩
  | .local _ .vmem, ⟨1, _⟩ => ⟨S13952x512, .i8⟩
  | .local _ .vmem, ⟨2, _⟩ => ⟨S13952x512, .i8⟩
  | .local _ .vmem, ⟨3, _⟩ => ⟨S1x512, .f32⟩
  | .local _ .vmem, ⟨4, _⟩ => ⟨S1x512, .f32⟩
  | .local _ .vmem, ⟨5, _⟩ => ⟨S32x512, .bf16⟩
  | .local _ .vmem, ⟨6, _⟩ => ⟨S32x512, .bf16⟩
  | _, _ => ⟨S32x1x13952, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![47], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x13952 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S13952x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32x1x13952 : Shape := ⟨3, ![32, 1, 13952]⟩
abbrev S13952x24064 : Shape := ⟨2, ![13952, 24064]⟩
abbrev S24064 : Shape := ⟨1, ![24064]⟩
abbrev S32x1x24064 : Shape := ⟨3, ![32, 1, 24064]⟩
abbrev S1x1x24064 : Shape := ⟨3, ![1, 1, 24064]⟩

abbrev nBuf : Space → Nat
  | .hbm => 10
  | .vmem => 0
  | .smem => 0
  | _ => 0

abbrev bufTy : (tb : Table) → Fin (tcTables nBuf tb) → BufTy
  | .hbm, ⟨0, _⟩ => ⟨S32x1x13952, .bf16⟩
  | .hbm, ⟨1, _⟩ => ⟨S13952x24064, .i8⟩
  | .hbm, ⟨2, _⟩ => ⟨S24064, .f32⟩
  | .hbm, ⟨3, _⟩ => ⟨S13952x24064, .i32⟩
  | .hbm, ⟨4, _⟩ => ⟨S13952x24064, .bf16⟩
  | .hbm, ⟨5, _⟩ => ⟨S32x1x24064, .f32⟩
  | .hbm, ⟨6, _⟩ => ⟨S1x1x24064, .f32⟩
  | .hbm, ⟨7, _⟩ => ⟨S32x1x24064, .f32⟩
  | .hbm, ⟨8, _⟩ => ⟨S32x1x24064, .f32⟩
  | .hbm, ⟨9, _⟩ => ⟨S32x1x24064, .bf16⟩
  | _, _ => ⟨S32x1x13952, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Block.lean ====
/-
  Hand-written, untrusted. WHAT ONE BLOCK COMPUTES, at the ideal instance: the payload of the kernel body's one store, read at
  an index, as the contraction sum times the column's scale.
-/
module

public import proofs.«01_k».proof.Proof.Gen.KernelIdeal.Skeleton
public import Idealize.ShloMosaic.Lib.Pointwise

@[expose] public section

set_option maxRecDepth 16384

noncomputable section

namespace Cert.KernelIdeal.Block

open Cert.KernelIdeal Cert.KernelIdeal.Gen Idealize.ShloMosaic Idealize.SL.Sem

/-- The payload of a block at row `r` and lane `l`: the sum over the features of the activation times the integer weight,
    times the scale of the column. -/
theorem pay_apply (x : Vec Ideal S32x13952 .bf16) (w : Vec Ideal S13952x512 .i8) (s : Vec Ideal S1x512 .f32)
    (r : Fin 32) (l : Fin 512) :
    k0_pay1 (F := Ideal) x w s (ix2 r l)
      = (∑ k : Fin 13952, x (ix2 r k) * (((w (ix2 k l) : BitVec 8).toInt : ℝ) : EReal)) * s (ix2 0 l) := by
  pointwise [k0_pay1]
  rfl

end Cert.KernelIdeal.Block

end
-- ==== Proof.Array.lean ====
/-
  Hand-written, untrusted. WHAT THE KERNEL'S ARRAYS HOLD, at the ideal instance: each grid point writes back its block of 512
  columns of the linear layer, the 47 blocks tile the region's result, and the program's result is that array with the sequence
  axis put back. `run` is the program's run with this value.
-/
module

public import proofs.«01_k».proof.Proof.Block
public import proofs.«01_k».proof.Proof.Gen.KernelIdeal.Frame
public import proofs.«01_k».proof.Proof.Gen.KernelIdeal.Points
public import Idealize.ShloMosaic.Lib.Pipeline.Value
public import Idealize.ShloMosaic.Lib.StableHlo.ReadAt

@[expose] public section

set_option maxRecDepth 16384

noncomputable section

namespace Cert.KernelIdeal.Array

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The linear layer on the flattened batch: at row `r` and column `n`, the sum over the features of the activation times the
    integer weight, times the column's scale. -/
def lin (x : Vec Ideal S32x1x13952 .bf16) (w : Vec Ideal S13952x24064 .i8) (s : Vec Ideal S24064 .f32) : Vec Ideal S32x24064 .bf16 :=
  fun i => (∑ k : Fin 13952, x (ix3 (i 0) 0 k) * (((w (ix2 k (i 1)) : BitVec 8).toInt : ℝ) : EReal)) * s (ix1 (i 1))

/-- `lin` of device `c`'s argument arrays. -/
abbrev G (c : Dev nD) : Buf (Elt Ideal) ((c : Thread nD τ).loc main_v2) :=
  lin (m ((c : Thread nD τ).loc main_arg0)) (m ((c : Thread nD τ).loc main_arg1)) (m ((c : Thread nD τ).loc main_arg2))

/-- The bodies' accesses start at the origin. -/
theorem hz : (![0, 0] : Fin 2 → Nat) = fun _ => 0 := funext fun a => by fin_cases a <;> rfl

/-- The region finds the activations flattened: row `r` of the matrix is batch element `r`. -/
theorem V_v0 (c : Dev nD) (r : Fin 32) (k : Fin 13952) :
    V m c main_v0 (ix2 r k) = m ((c : Thread nD τ).loc main_arg0) (ix3 r 0 k) := by
  unfold V V0
  after_reads_at

/-- The region finds the scales as one row. -/
theorem V_v1 (c : Dev nD) (k : Fin 24064) :
    V m c main_v1 (ix2 0 k) = m ((c : Thread nD τ).loc main_arg2) (ix1 k) := by
  unfold V V0
  after_reads_at

/-- The index maps: the activations' one block, and at point `t` the `t`-th block of columns of weights, scales and result. -/
theorem idx_facts : ∀ t : Fin cfg0.N,
    win0_0.index t 0 = 0 ∧ win0_0.index t 1 = 0 ∧ win0_1.index t 0 = 0 ∧ win0_1.index t 1 = t.val
    ∧ win0_2.index t 0 = 0 ∧ win0_2.index t 1 = t.val ∧ win0_3.index t 0 = 0 ∧ win0_3.index t 1 = t.val := by
  exact (by decide +kernel : ∀ t : Fin grid0.N, win0_0.index t 0 = 0 ∧ win0_0.index t 1 = 0 ∧ win0_1.index t 0 = 0 ∧ win0_1.index t 1 = t.val
    ∧ win0_2.index t 0 = 0 ∧ win0_2.index t 1 = t.val ∧ win0_3.index t 0 = 0 ∧ win0_3.index t 1 = t.val)

/-- The grid has 47 points. -/
theorem lt47 (t : Fin cfg0.N) : t.val < 47 := lt_of_lt_of_eq t.isLt N_0

/-- The activations' block is the whole matrix. -/
theorem iblk0_apply (c : Dev nD) (t : Fin cfg0.N) (r : Fin 32) (k : Fin 13952) :
    iblk m c 0 t (ix2 r k) = m ((c : Thread nD τ).loc main_arg0) (ix3 r 0 k) := by
  rw [← V_v0 m c]
  show V m c main_v0 ((win0_0.rect t).emb (ix2 r k)) = _
  congr 1
  funext a
  apply Fin.ext
  rw [Pipeline.Window.rect_emb_val_off]
  have := idx_facts t
  fin_cases a
  · show win0_0.index t 0 * 32 + r.val = r.val
    omega
  · show win0_0.index t 1 * 13952 + k.val = k.val
    omega

/-- The weights' block at point `t` is columns `512 t` to `512 t + 511`. -/
theorem iblk1_apply (c : Dev nD) (t : Fin cfg0.N) (k : Fin 13952) (l : Fin 512) :
    iblk m c 1 t (ix2 k l) = m ((c : Thread nD τ).loc main_arg1) (ix2 k ⟨t.val * 512 + l.val, by have := lt47 t; omega⟩) := by
  rw [← V_main_arg1 m c]
  show V m c main_arg1 ((win0_1.rect t).emb (ix2 k l)) = _
  congr 1
  funext a
  apply Fin.ext
  rw [Pipeline.Window.rect_emb_val_off]
  have := idx_facts t
  fin_cases a
  · show win0_1.index t 0 * 13952 + k.val = k.val
    omega
  · show win0_1.index t 1 * 512 + l.val = t.val * 512 + l.val
    rw [this.2.2.2.1]

/-- The scales' block at point `t` is those of columns `512 t` to `512 t + 511`. -/
theorem iblk2_apply (c : Dev nD) (t : Fin cfg0.N) (l : Fin 512) :
    iblk m c 2 t (ix2 0 l) = m ((c : Thread nD τ).loc main_arg2) (ix1 ⟨t.val * 512 + l.val, by have := lt47 t; omega⟩) := by
  rw [← V_v1 m c]
  show V m c main_v1 ((win0_2.rect t).emb (ix2 0 l)) = _
  congr 1
  funext a
  apply Fin.ext
  rw [Pipeline.Window.rect_emb_val_off]
  have := idx_facts t
  fin_cases a
  · show win0_2.index t 0 * 1 + 0 = 0
    omega
  · show win0_2.index t 1 * 512 + l.val = t.val * 512 + l.val
    rw [this.2.2.2.2.2.1]

/-- What point `t` writes back is its block of columns of the whole linear layer. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  unfold out0_3
  rw [View.canon_unit_zero hz, View.ld_unit_zero hz, View.ld_unit_zero hz, View.ld_unit_zero hz]
  funext y
  show k0_pay1 (F := Ideal) (iblk m c 0 t) (iblk m c 1 t) (iblk m c 2 t) y = G m c ((win0_3.rect t).emb y)
  obtain ⟨r, l, rfl⟩ : ∃ (r : Fin 32) (l : Fin 512), y = ix2 r l := ⟨y 0, y 1, eq_ix2 y⟩
  have hl := lt47 t
  have he : (win0_3.rect t).emb (ix2 r l) = ix2 r (⟨t.val * 512 + l.val, by omega⟩ : Fin 24064) := by
    funext a
    apply Fin.ext
    rw [Pipeline.Window.rect_emb_val_off]
    have := idx_facts t
    fin_cases a
    · show win0_3.index t 0 * 32 + r.val = r.val
      omega
    · show win0_3.index t 1 * 512 + l.val = t.val * 512 + l.val
      rw [this.2.2.2.2.2.2.2]
  rw [he, Block.pay_apply]
  simp only [iblk0_apply, iblk1_apply, iblk2_apply]
  rfl

/-- The 47 blocks tile the result. -/
theorem cover (i : S32x24064.Idx) : ∃ t : Fin cfg0.N, (cfg0.win 3).flush t = true ∧ i ∈ ((cfg0.win 3).blk t).view.set := by
  have h1 : (i 1 : Nat) < 24064 := (i 1).isLt
  have h0 : (i 0 : Nat) < 32 := (i 0).isLt
  obtain ⟨t, ht⟩ : ∃ t : Fin cfg0.N, t.val = (i 1 : Nat) / 512 :=
    ⟨⟨(i 1 : Nat) / 512, lt_of_lt_of_eq (by omega : (i 1 : Nat) / 512 < 47) N_0.symm⟩, rfl⟩
  refine ⟨t, flush0_3 t, ?_⟩
  show i ∈ ((View.whole main_v2).slice (win0_3.rect t)).set
  rw [View.set_slice_whole, Rect.mem_set_unit]
  have := idx_facts t
  intro a
  fin_cases a
  · show win0_3.index t 0 * 32 ≤ (i 0 : Nat) ∧ (i 0 : Nat) < win0_3.index t 0 * 32 + 32
    omega
  · show win0_3.index t 1 * 512 ≤ (i 1 : Nat) ∧ (i 1 : Nat) < win0_3.index t 1 * 512 + 512
    rw [this.2.2.2.2.2.2.2]
    omega

/-- So the array that the region writes ends as the whole linear layer. -/
theorem final (c : Dev nD) : (dats m 0 c).arrAt 3 cfg0.N = G m c :=
  (dats m 0 c).arrAt_eq_of_cover 3 (G m c) (fun t _ => flushed_eq m c t) (cover)

/-- And the reshape after the region gives it the sequence axis back. -/
theorem W_v3 (c : Dev nD) (r : Fin 32) (n : Fin 24064) :
    Pipeline.afterTail₀ cfgs (dats m) 0 (V0 m) [hostOps1] c main_v3 (ix3 r 0 n) = G m c (ix2 r n) := by
  unfold Pipeline.afterTail₀
  after_reads_at
  exact congrFun ((Pipeline.withArrays_arr (cfgs 0).spec launch0.win.arr_inj c (V0 m c)
    (fun w => (dats m 0 c).arrAt w (cfgs 0).N) 3).trans (final m c)) (ix2 r n)

/-- The program's result: `lin` with the sequence axis. -/
abbrev result (c : Dev nD) : Buf (Elt Ideal) ((c : Thread nD τ).loc main_v3) :=
  fun i : S32x1x24064.Idx => G m c (ix2 (i 0) (i 2))

/-- The kernel's run with its value: the result is `lin` of the arguments, and the arguments end unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨?_, ?_, ?_, ?_⟩) (run_main (F := Ideal) m ρ)
  · refine ((h c).2 main_v3 (Pipeline.mem_restRefs_of main_v3 (by decide) (by decide))).trans (funext fun i => ?_)
    obtain ⟨r, z, n, rfl⟩ : ∃ (r : Fin 32) (z : Fin 1) (n : Fin 24064), i = ix3 r z n := ⟨i 0, i 1, i 2, eq_ix3 i⟩
    obtain rfl : z = 0 := Subsingleton.elim _ _
    exact W_v3 m c r n
  · exact ((h c).2 main_arg0 (Pipeline.mem_restRefs_of main_arg0 (by decide) (by decide))).trans (W_main_arg0 m (dats m) c)
  · exact ((h c).1 1).trans (((dats m 0 c).arrAt_in 1 rfl _).trans ((A_eq m c 1).trans (V_main_arg1 m c)))
  · exact ((h c).2 main_arg2 (Pipeline.mem_restRefs_of main_arg2 (by decide) (by decide))).trans (W_main_arg2 m (dats m) c)

end Cert.KernelIdeal.Array

end
-- ==== Proof.Reference.lean ====
/-
  Hand-written, untrusted. WHAT THE REFERENCE COMPUTES, at the ideal instance: its composed term read at an index.
-/
module

public import proofs.«01_k».proof.Proof.Gen.ReferenceIdeal.Run
public import Idealize.ShloMosaic.Lib.Pointwise

@[expose] public section

set_option maxRecDepth 16384

noncomputable section

namespace Cert.ReferenceIdeal.Apply

open Cert.ReferenceIdeal Cert.ReferenceIdeal.Gen Idealize.ShloMosaic Idealize.SL.Sem

/-- An int8 widened to int32 is the same integer. -/
theorem toInt_widened (w : BitVec 8) : (BitVec.signExtend 32 w).toInt = w.toInt :=
  BitVec.toInt_signExtend_of_le (by decide)

/-- The reference's result at batch element `r` and column `n`: the sum over the features of the activation times the integer
    weight, times the column's scale. -/
theorem ref_apply (x : Vec Ideal S32x1x13952 .bf16) (w : Vec Ideal S13952x24064 .i8) (s : Vec Ideal S24064 .f32)
    (r : Fin 32) (n : Fin 24064) :
    (truncf .bf16 (mulf (Host.dotGeneral (φ₁ := .bf16) (φ₂ := .bf16) dot_S32x1x13952_S13952x24064_S32x1x24064_2_0_01_1_n_n none x
        (sitofp .bf16 (extsi 32 w natLt_8_32)))
      (broadcastInDim S32x1x24064 ![0, 1, 2] bcast_S1x1x24064_S32x1x24064_0_1_2
        (broadcastInDim S1x1x24064 ![2] bcast_S24064_S1x1x24064_2 s))) bitsLt_bf16_f32 : FVec Ideal S32x1x24064 .bf16) (ix3 r 0 n)
      = (∑ k : Fin 13952, x (ix3 r 0 k) * (((w (ix2 k n) : BitVec 8).toInt : ℝ) : EReal)) * s (ix1 n) := by
  pointwise
  congr 1
  refine Finset.sum_congr rfl fun k _ => ?_
  rw [← toInt_widened]
  rfl

end Cert.ReferenceIdeal.Apply

end
-- ==== Proof.lean ====
/-
  Hand-written, untrusted. The proof of `Cert.Claim` (proof/Defs.lean): the generated frames, and the algebraic claim, where the
  kernel's result (Proof/Array.lean `run`) and the reference's (Proof/Reference.lean `ref_apply`) are one sum times one scale.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Array
public import proofs.«01_k».proof.Proof.Reference
public import Idealize.ShloMosaic.Lib.Quiescent

@[expose] public section

noncomputable section

namespace Cert.Proof

open Idealize.ShloMosaic Idealize.SL.Sem

/-- `Cert.algebraic_KernelIdeal_ReferenceIdeal`: both run, and from equal arguments the results are equal. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Array.result m c, Cert.KernelIdeal.Array.run m g, ?_⟩
  refine (θ_run (Cert.ReferenceIdeal.defs (F := Ideal)) _ _).mono (fun r h c => ?_)
    (Cert.ReferenceIdeal.Value.run (F := Ideal) m' g')
  obtain ⟨hv, h0, h1, h2⟩ := h c
  refine ⟨hv.trans (funext fun i => ?_), h0, h1, h2⟩
  obtain ⟨r, z, n, rfl⟩ : ∃ (r : Fin 32) (z : Fin 1) (n : Fin 24064), i = ix3 r z n := ⟨i 0, i 1, i 2, eq_ix3 i⟩
  obtain rfl : z = 0 := Subsingleton.elim _ _
  rw [(hargs c).1, (hargs c).2.1, (hargs c).2.2]
  exact Cert.ReferenceIdeal.Apply.ref_apply _ _ _ r n

/-- `Cert.quiescent_ReferenceIdeal`: the host run read at the arguments; it declares no semaphore. -/
theorem reference : Cert.quiescent_ReferenceIdeal (hReferenceIdeal := Cert.ReferenceIdeal.Gen.facts) := fun m g _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m g)

/-- Everything claimed: the three frames, that the ideal kernel is the sanctioned idealization of the kernel, and the value. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference, trivial, algebraic⟩

end Cert.Proof

end
